-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6144x4736 : Shape := ⟨3, ![3, 6144, 4736]⟩
abbrev S3x6144x1 : Shape := ⟨3, ![3, 6144, 1]⟩
abbrev S3584x4736 : Shape := ⟨2, ![3584, 4736]⟩
abbrev S3584 : Shape := ⟨1, ![3584]⟩
abbrev S18432x4736 : Shape := ⟨2, ![18432, 4736]⟩
abbrev S18432x1 : Shape := ⟨2, ![18432, 1]⟩
abbrev S1x3584 : Shape := ⟨2, ![1, 3584]⟩
abbrev S18432x3584 : Shape := ⟨2, ![18432, 3584]⟩
abbrev S512x4736 : Shape := ⟨2, ![512, 4736]⟩
abbrev S512x1 : Shape := ⟨2, ![512, 1]⟩
abbrev S512x3584 : Shape := ⟨2, ![512, 3584]⟩
abbrev S512 : Shape := ⟨1, ![512]⟩

abbrev nBuf : Space → Nat
  | .hbm => 9
  | .vmem => 10
  | .smem => 0
  | _ => 0

abbrev bufTy : (tb : Table) → Fin (tcTables nBuf tb) → BufTy
  | .hbm, ⟨0, _⟩ => ⟨S3x6144x4736, .fp8e4m3⟩
  | .hbm, ⟨1, _⟩ => ⟨S3x6144x1, .f32⟩
  | .hbm, ⟨2, _⟩ => ⟨S3584x4736, .fp8e4m3⟩
  | .hbm, ⟨3, _⟩ => ⟨S3584, .f32⟩
  | .hbm, ⟨4, _⟩ => ⟨S18432x4736, .fp8e4m3⟩
  | .hbm, ⟨5, _⟩ => ⟨S18432x1, .f32⟩
  | .hbm, ⟨6, _⟩ => ⟨S1x3584, .f32⟩
  | .hbm, ⟨7, _⟩ => ⟨S18432x1, .f32⟩
  | .hbm, ⟨8, _⟩ => ⟨S18432x3584, .fp8e4m3⟩
  | .local _ .vmem, ⟨0, _⟩ => ⟨S512x4736, .fp8e4m3⟩
  | .local _ .vmem, ⟨1, _⟩ => ⟨S512x4736, .fp8e4m3⟩
  | .local _ .vmem, ⟨2, _⟩ => ⟨S512x1, .f32⟩
  | .local _ .vmem, ⟨3, _⟩ => ⟨S512x1, .f32⟩
  | .local _ .vmem, ⟨4, _⟩ => ⟨S3584x4736, .fp8e4m3⟩
  | .local _ .vmem, ⟨5, _⟩ => ⟨S1x3584, .f32⟩
  | .local _ .vmem, ⟨6, _⟩ => ⟨S512x1, .f32⟩
  | .local _ .vmem, ⟨7, _⟩ => ⟨S512x1, .f32⟩
  | .local _ .vmem, ⟨8, _⟩ => ⟨S512x3584, .fp8e4m3⟩
  | .local _ .vmem, ⟨9, _⟩ => ⟨S512x3584, .fp8e4m3⟩
  | _, _ => ⟨S3x6144x4736, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4736 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x6144x4736 : Shape := ⟨3, ![3, 6144, 4736]⟩
abbrev S3x6144x1 : Shape := ⟨3, ![3, 6144, 1]⟩
abbrev S3584x4736 : Shape := ⟨2, ![3584, 4736]⟩
abbrev S3584 : Shape := ⟨1, ![3584]⟩
abbrev S18432x4736 : Shape := ⟨2, ![18432, 4736]⟩
abbrev S18432x1 : Shape := ⟨2, ![18432, 1]⟩
abbrev S1x3584 : Shape := ⟨2, ![1, 3584]⟩
abbrev S18432x3584 : Shape := ⟨2, ![18432, 3584]⟩
abbrev S18432 : Shape := ⟨1, ![18432]⟩
abbrev S1x252 : Shape := ⟨2, ![1, 252]⟩
abbrev S18432x252 : Shape := ⟨2, ![18432, 252]⟩

abbrev nBuf : Space → Nat
  | .hbm => 9
  | .vmem => 6
  | .smem => 0
  | _ => 0

abbrev bufTy : (tb : Table) → Fin (tcTables nBuf tb) → BufTy
  | .hbm, ⟨0, _⟩ => ⟨S3x6144x4736, .fp8e4m3⟩
  | .hbm, ⟨1, _⟩ => ⟨S3x6144x1, .f32⟩
  | .hbm, ⟨2, _⟩ => ⟨S3584x4736, .fp8e4m3⟩
  | .hbm, ⟨3, _⟩ => ⟨S3584, .f32⟩
  | .hbm, ⟨4, _⟩ => ⟨S18432x4736, .fp8e4m3⟩
  | .hbm, ⟨5, _⟩ => ⟨S18432x1, .f32⟩
  | .hbm, ⟨6, _⟩ => ⟨S1x3584, .f32⟩
  | .hbm, ⟨7, _⟩ => ⟨S18432x1, .f32⟩
  | .hbm, ⟨8, _⟩ => ⟨S18432x3584, .fp8e4m3⟩
  | .local _ .vmem, ⟨0, _⟩ => ⟨S18432x4736, .fp8e4m3⟩
  | .local _ .vmem, ⟨1, _⟩ => ⟨S18432x1, .f32⟩
  | .local _ .vmem, ⟨2, _⟩ => ⟨S3584x4736, .fp8e4m3⟩
  | .local _ .vmem, ⟨3, _⟩ => ⟨S1x3584, .f32⟩
  | .local _ .vmem, ⟨4, _⟩ => ⟨S18432x1, .f32⟩
  | .local _ .vmem, ⟨5, _⟩ => ⟨S18432x3584, .fp8e4m3⟩
  | _, _ => ⟨S3x6144x4736, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S18432x4736 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/-
  THE EXPONENT OF A SCALE (hand-written, untrusted): the mathematics of choosing a power of two from an extended real `t`,
  free of any program.

  A row's scale is a power of two `2 ^ e` read off a number `t`. One side of the certificate finds the biased exponent field
  of `t` by a binary search: eight tests of `t` against words that hold an exponent field and nothing else. The other side
  counts how many of the powers `2 ^ (-126), …, 2 ^ 125` are at most `t`. Here both are shown to be the same number, and the
  words assembled from it to denote `2 ^ e` and `2 ^ (-e)`.
-/
module

public import Idealize.ShloMosaic.PureOps.Ideal
public import Idealize.ShloMosaic.Lib.Pointwise

@[expose] public section

noncomputable section

namespace Cert.Exponent

open Idealize.ShloMosaic

/-- The number the f32 word denotes whose exponent field is `n` and whose other bits are zero. -/
def thr (n : ℕ) : EReal := Ideal.ofBits .f32 (BitVec.ofNat 32 n <<< 23)

/-- The three fields of such a word: the exponent field is `n`, the significand and the sign are zero. -/
theorem fields : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

/-- An exponent field from 1 to 254 alone denotes the power of two with the bias taken off. -/
theorem thr_eq {n : ℕ} (h1 : 1 ≤ n) (h2 : n ≤ 254) : thr n = (((2 : ℝ) ^ ((n : ℤ) - 127) : ℝ) : EReal) := by
  obtain ⟨hx, hf, hs⟩ := fields ⟨n, by omega⟩
  have hz : (2 : ℝ) ^ (23 : ℤ) * (2 : ℝ) ^ ((n : ℤ) - 127 - 23) = (2 : ℝ) ^ ((n : ℤ) - 127) := by
    rw [← zpow_add₀ (two_ne_zero (α := ℝ)), show (23 : ℤ) + ((n : ℤ) - 127 - 23) = (n : ℤ) - 127 by omega]
  have h23 : ((8388608 : ℕ) : ℝ) = (2 : ℝ) ^ (23 : ℤ) := by norm_num
  unfold thr Ideal.ofBits Ideal.ieee
  simp only [hx, hf, Nat.reduceAdd, hs, Nat.reducePow, Nat.reduceSub, Bool.false_eq_true, if_false, one_mul, add_zero]
  rw [if_neg (by omega), if_neg (by omega), h23, ← hz]
  rfl

/-- The all-ones exponent field alone denotes `+∞`. -/
theorem thr_255 : thr 255 = ⊤ := by
  simp [thr, Ideal.ofBits, Ideal.ieee]

/-- A larger exponent field denotes a larger number. -/
theorem thr_mono {a b : ℕ} (h1 : 1 ≤ a) (hab : a ≤ b) (hb : b ≤ 255) : thr a ≤ thr b := by
  rcases Nat.lt_or_ge b 255 with h | h
  · rw [thr_eq h1 (by omega), thr_eq (by omega) (by omega), EReal.coe_le_coe_iff]
    exact zpow_le_zpow_right₀ (by norm_num) (by omega)
  · obtain rfl : b = 255 := by omega
    rw [thr_255]; exact le_top

/-- An exponent field of at least one denotes a positive number. -/
theorem thr_pos {a : ℕ} (h1 : 1 ≤ a) (ha : a ≤ 255) : 0 < thr a := by
  refine lt_of_lt_of_le ?_ (thr_mono le_rfl h1 ha)
  rw [thr_eq le_rfl (by omega)]
  exact EReal.coe_pos.2 (zpow_pos (by norm_num) _)

/-! ## The search -/

/-- One step of the search: `b + k` if the word of that exponent field is at most `t`, else `b`. -/
def step (t : EReal) (b k : BitVec 32) : BitVec 32 :=
  if t < Ideal.ofBits .f32 ((b + k) <<< 23) then b else b + k

/-- The eight steps, from the high bit of the field down. -/
def ladder (t : EReal) : BitVec 32 :=
  step t (step t (step t (step t (step t (step t (step t (step t 0#32 128#32) 64#32) 32#32) 16#32) 8#32) 4#32) 2#32) 1#32

/-- The search has narrowed the field of `t` to the `w` values from `n` on. -/
def Within (t : EReal) (n w : ℕ) : Prop :=
  n + w ≤ 256 ∧ (n = 0 ∨ thr n ≤ t) ∧ (n + w = 256 ∨ t < thr (n + w))

/-- A step halves the range. -/
theorem step_within {t : EReal} {n w : ℕ} (h : Within t n (2 * w)) :
    ∃ n', step t (BitVec.ofNat 32 n) (BitVec.ofNat 32 w) = BitVec.ofNat 32 n' ∧ Within t n' w := by
  obtain ⟨h1, h2, h3⟩ := h
  have e : BitVec.ofNat 32 n + BitVec.ofNat 32 w = BitVec.ofNat 32 (n + w) := (BitVec.ofNat_add n w).symm
  unfold step
  rw [e]
  by_cases hlt : t < thr (n + w)
  · exact ⟨n, if_pos hlt, by omega, h2, .inr hlt⟩
  · refine ⟨n + w, if_neg hlt, by omega, .inr (not_lt.1 hlt), ?_⟩
    rw [show n + w + w = n + 2 * w by omega]
    exact h3

/-- The search ends at the one field whose word is at most `t` while the next field's word is above `t`. -/
theorem ladder_within (t : EReal) : ∃ n, ladder t = BitVec.ofNat 32 n ∧ Within t n 1 := by
  have h0 : Within t 0 (2 * 128) := ⟨by omega, .inl rfl, .inl rfl⟩
  obtain ⟨n1, e1, h1⟩ := step_within (w := 128) h0
  obtain ⟨n2, e2, h2⟩ := step_within (w := 64) h1
  obtain ⟨n3, e3, h3⟩ := step_within (w := 32) h2
  obtain ⟨n4, e4, h4⟩ := step_within (w := 16) h3
  obtain ⟨n5, e5, h5⟩ := step_within (w := 8) h4
  obtain ⟨n6, e6, h6⟩ := step_within (w := 4) h5
  obtain ⟨n7, e7, h7⟩ := step_within (w := 2) h6
  obtain ⟨n8, e8, h8⟩ := step_within (w := 1) h7
  refine ⟨n8, ?_, h8⟩
  unfold ladder
  rw [e1, e2, e3, e4, e5, e6, e7, e8]

/-! ## The count -/

/-- How many of the powers `2 ^ (-126), …, 2 ^ 125` are at most `t`. -/
def count (t : EReal) : ℕ :=
  (Finset.univ.filter fun j : Fin 252 => (((2 : ℝ) ^ ((j.val : ℤ) - 126) : ℝ) : EReal) ≤ t).card

theorem count_le (t : EReal) : count t ≤ 252 := (Finset.card_filter_le _ _).trans (by simp)

/-- A field the search has narrowed to, cut off at 252, is the count. -/
theorem count_of_within {t : EReal} {n : ℕ} (h : Within t n 1) : count t = min n 252 := by
  obtain ⟨h1, h2, h3⟩ := h
  have key : ∀ j : Fin 252, (((2 : ℝ) ^ ((j.val : ℤ) - 126) : ℝ) : EReal) ≤ t ↔ j.val < n := by
    intro j
    have hj := j.isLt
    have e : (((2 : ℝ) ^ ((j.val : ℤ) - 126) : ℝ) : EReal) = thr (j.val + 1) := by
      rw [thr_eq (by omega) (by omega)]; congr 2; push_cast; ring
    rw [e]
    constructor
    · intro hle
      by_contra hn
      rcases h3 with h3 | h3
      · omega
      · exact absurd (lt_of_lt_of_le h3 (thr_mono (by omega) (show n + 1 ≤ j.val + 1 by omega) (by omega))) (not_lt.2 hle)
    · intro hlt
      rcases h2 with h2 | h2
      · omega
      · exact (thr_mono (by omega) (show j.val + 1 ≤ n by omega) (by omega)).trans h2
  unfold count
  rw [Finset.filter_congr (fun j _ => key j)]
  have : (Finset.univ.filter fun j : Fin 252 => j.val < n) = Finset.univ.filter fun j : Fin 252 => j.val < min n 252 :=
    Finset.filter_congr fun j _ => by have := j.isLt; omega
  rw [this, Fin.card_filter_val_lt]
  omega

/-- Nothing is counted at zero. -/
theorem count_zero : count 0 = 0 := by
  unfold count
  rw [Finset.card_eq_zero, Finset.filter_eq_empty_iff]
  intro j _ h
  have : (0 : EReal) < (((2 : ℝ) ^ ((j.val : ℤ) - 126) : ℝ) : EReal) :=
    EReal.coe_pos.2 (zpow_pos (by norm_num) _)
  exact absurd h (not_le.2 this)

/-! ## The exponent, and the words it is assembled into -/

/-- The exponent a count stands for: none counted is exponent zero. -/
def expo (t : EReal) : ℤ := if count t = 0 then 0 else (count t : ℤ) - 126

/-- The exponent as the search's side keeps it: the field, cut off at 252, less 126, a zero field being exponent zero. -/
def word (t : EReal) : BitVec 32 :=
  if (if (ladder t).slt 252#32 then ladder t else 252#32) = 0#32 then 0#32
  else (if (ladder t).slt 252#32 then ladder t else 252#32) - 126#32

/-- The search's field, cut off at 252, is the count. -/
theorem cut_ladder (t : EReal) : (if (ladder t).slt 252#32 then ladder t else 252#32) = BitVec.ofNat 32 (count t) := by
  obtain ⟨n, e, h⟩ := ladder_within t
  rw [count_of_within h, e]
  have hn : n ≤ 255 := by have := h.1; omega
  clear e h
  interval_cases n <;> decide

theorem word_cases : ∀ n : Fin 253,
    (if BitVec.ofNat 32 n = 0#32 then 0#32 else BitVec.ofNat 32 n - 126#32) + 127#32
        = BitVec.ofNat 32 (if n.val = 0 then 127 else n.val + 1)
    ∧ 127#32 - (if BitVec.ofNat 32 n = 0#32 then 0#32 else BitVec.ofNat 32 n - 126#32)
        = BitVec.ofNat 32 (if n.val = 0 then 127 else 253 - n.val) := by decide +kernel

/-- The word assembled from the exponent plus the bias denotes `2 ^ e`. -/
theorem ofBits_scale (t : EReal) : Ideal.ofBits .f32 ((word t + 127#32) <<< 23) = (((2 : ℝ) ^ expo t : ℝ) : EReal) := by
  have hc := count_le t
  have h := (word_cases ⟨count t, by omega⟩).1
  unfold word
  rw [cut_ladder]
  erw [h]
  unfold expo
  by_cases h0 : count t = 0
  · rw [if_pos h0, if_pos h0]; exact (thr_eq (by omega) (by omega)).trans (by norm_num)
  · rw [if_neg h0, if_neg h0]
    refine (thr_eq (by omega) (by omega)).trans ?_
    congr 2; push_cast; ring

/-- The word assembled from the bias less the exponent denotes `2 ^ (-e)`. -/
theorem ofBits_inverse (t : EReal) : Ideal.ofBits .f32 ((127#32 - word t) <<< 23) = (((2 : ℝ) ^ (-expo t) : ℝ) : EReal) := by
  have hc := count_le t
  have h := (word_cases ⟨count t, by omega⟩).2
  unfold word
  rw [cut_ladder]
  erw [h]
  unfold expo
  by_cases h0 : count t = 0
  · rw [if_pos h0, if_pos h0]; exact (thr_eq (by omega) (by omega)).trans (by norm_num)
  · rw [if_neg h0, if_neg h0]
    refine (thr_eq (by omega) (by omega)).trans ?_
    congr 2; push_cast [Nat.cast_sub (show count t ≤ 253 by omega)]; ring

/-- A power of two at an integer exponent, as the extended reals' `exp2` spells it. -/
theorem exp2_int (e : ℤ) : Ideal.exp2 ((e : ℝ) : EReal) = (((2 : ℝ) ^ e : ℝ) : EReal) := by
  rw [Ideal.exp2_coe]
  exact congrArg _ (Real.rpow_intCast 2 e)

/-- The count as a sum of ones and zeros over the powers compared. -/
theorem sum_count (t : EReal) (p : Fin 252 → EReal) (hp : ∀ j, p j = (((2 : ℝ) ^ ((j.val : ℤ) - 126) : ℝ) : EReal)) :
    (∑ j : Fin 252, if p j ≤ t then (1 : EReal) else 0) = ((count t : ℝ) : EReal) := by
  rw [Finset.sum_boole]
  unfold count
  simp only [hp]
  rfl

end Cert.Exponent

end
-- ==== Proof.Row.lean ====
/-
  ONE ROW OF THE LAYER (hand-written, untrusted): what both programs compute of a row, as functions of extended reals, free
  of any program and any tiling.

  A row of activations, its scale, the weights and their scales give 3584 values `y`: the product, scaled, through the
  tanh-approximated GELU. The row's greatest absolute value picks a power of two `2 ^ e` (Exponent.lean); the row's scale is
  `2 ^ e` and its codes are `y · 2 ^ (-e)` clipped to ±448.
-/
module

public import proofs.«01_k».proof.Proof.Exponent

@[expose] public section

noncomputable section

namespace Cert.Row

open Idealize.ShloMosaic

/-- The tanh approximation of the GELU: `v · (1/2 · (1 + tanh (√(2/π) · (v + 0.044715 · v³))))`, the constants those the f32
    words denote. -/
def gelu (v : EReal) : EReal :=
  v * (Ideal.ofBits .f32 0x3F000000#32 * (1 + Ideal.tanh (Ideal.ofBits .f32 0x3F4C422A#32
    * (v + Ideal.ofBits .f32 0x3D372713#32 * (v * v * v)))))

/-- One output of the layer: the GELU of the row's product with a weight row, under the row's and the column's scales. -/
def value (x : Fin 4736 → EReal) (s : EReal) (w : Fin 4736 → EReal) (ws : EReal) : EReal :=
  gelu ((∑ k, x k * w k) * s * ws)

/-- A row's greatest absolute value. -/
def amax (y : Fin 3584 → EReal) : EReal :=
  Finset.univ.fold max (Ideal.ofBits .f32 0xFF800000#32) fun c => max (y c) (-(y c))

/-- The number the row's exponent is read off: the greatest absolute value times the f32 word nearest 1/448. -/
def ratio (y : Fin 3584 → EReal) : EReal := amax y * Ideal.ofBits .f32 0x3B124925#32

/-- The row's scale, a power of two. -/
def scale (y : Fin 3584 → EReal) : EReal := (((2 : ℝ) ^ Exponent.expo (ratio y) : ℝ) : EReal)

/-- The row's code at column `c`: its value over the scale, clipped to ±448. -/
def code (y : Fin 3584 → EReal) (c : Fin 3584) : EReal :=
  min (Ideal.ofBits .f32 0x43E00000#32)
    (max (Ideal.ofBits .f32 0xC3E00000#32) (y c * (((2 : ℝ) ^ (-Exponent.expo (ratio y)) : ℝ) : EReal)))

/-- The GELU with the cube multiplied the other way round. -/
theorem gelu_assoc (v : EReal) :
    v * (Ideal.ofBits .f32 0x3F000000#32 * (1 + Ideal.tanh (Ideal.ofBits .f32 0x3F4C422A#32
      * (v + Ideal.ofBits .f32 0x3D372713#32 * (v * (v * v)))))) = gelu v := by
  unfold gelu
  rw [mul_assoc v v v]

/-- The f32 word of 126 denotes 126. -/
theorem ofBits_126 : Ideal.ofBits .f32 0x42FC0000#32 = ((126 : ℝ) : EReal) := by
  simp [Ideal.ofBits, Ideal.ieee, -EReal.coe_mul]; norm_num

/-- A row whose greatest absolute value is zero has nothing counted. -/
theorem count_of_amax_zero {y : Fin 3584 → EReal} (h : amax y = 0) : Exponent.count (ratio y) = 0 := by
  unfold ratio
  rw [h, zero_mul, Exponent.count_zero]

/-- The exponent as the count's side states it, its tests for a zero row and for a zero count included. -/
theorem expo_of_count (y : Fin 3584 → EReal) :
    (if amax y = 0 then 0
      else if ((Exponent.count (ratio y) : ℝ) : EReal) = 0 then 0
      else ((Exponent.count (ratio y) : ℝ) : EReal) - ((126 : ℝ) : EReal)) = (((Exponent.expo (ratio y) : ℤ) : ℝ) : EReal) := by
  have hc : ((Exponent.count (ratio y) : ℝ) : EReal) = 0 ↔ Exponent.count (ratio y) = 0 := by
    rw [EReal.coe_eq_zero, Nat.cast_eq_zero]
  unfold Exponent.expo
  by_cases h0 : Exponent.count (ratio y) = 0
  · rw [if_pos h0, if_pos (hc.2 h0), ite_self]; simp
  · have ha : amax y ≠ 0 := fun h => h0 (count_of_amax_zero h)
    rw [if_neg ha, if_neg (mt hc.1 h0), if_neg h0, ← EReal.coe_sub]
    push_cast; rfl

end Cert.Row

end
-- ==== Proof.Arrays.lean ====
/-
  THE TWO RESULT ARRAYS (hand-written, untrusted): the scales and the codes of all 18432 rows, as functions of the four
  operand arrays, free of any program and any tiling.
-/
module

public import proofs.«01_k».proof.Proof.Row

@[expose] public section

noncomputable section

namespace Cert.Arrays

open Idealize.ShloMosaic

/-- Row `r` of the layer, out of the activations, their row scales, the weights and their column scales. -/
abbrev row (x : (⟨2, ![18432, 4736]⟩ : Shape).Idx → EReal) (s : (⟨2, ![18432, 1]⟩ : Shape).Idx → EReal)
    (w : (⟨2, ![3584, 4736]⟩ : Shape).Idx → EReal) (ws : (⟨2, ![1, 3584]⟩ : Shape).Idx → EReal) (r : Fin 18432) :
    Fin 3584 → EReal :=
  fun c => Row.value (fun k => x (ix2 r k)) (s (ix2 r 0)) (fun k => w (ix2 c k)) (ws (ix2 0 c))

/-- The array of the scales: each row's power of two. -/
def scales (x : (⟨2, ![18432, 4736]⟩ : Shape).Idx → EReal) (s : (⟨2, ![18432, 1]⟩ : Shape).Idx → EReal)
    (w : (⟨2, ![3584, 4736]⟩ : Shape).Idx → EReal) (ws : (⟨2, ![1, 3584]⟩ : Shape).Idx → EReal) :
    (⟨2, ![18432, 1]⟩ : Shape).Idx → EReal :=
  fun i => Row.scale (row x s w ws (i 0))

/-- The array of the codes: each row's values over the row's scale, clipped. -/
def codes (x : (⟨2, ![18432, 4736]⟩ : Shape).Idx → EReal) (s : (⟨2, ![18432, 1]⟩ : Shape).Idx → EReal)
    (w : (⟨2, ![3584, 4736]⟩ : Shape).Idx → EReal) (ws : (⟨2, ![1, 3584]⟩ : Shape).Idx → EReal) :
    (⟨2, ![18432, 3584]⟩ : Shape).Idx → EReal :=
  fun i => Row.code (row x s w ws (i 0)) (i 1)

end Cert.Arrays

end
-- ==== Proof.RowReduce.lean ====
/-
  A ROW'S MAXIMUM AND A ROW'S SUM (hand-written, untrusted): a reduction of a matrix along its columns, kept as one column,
  read at a row, for a matrix of any extents.
-/
module

public import Idealize.ShloMosaic.PureOps.Ideal.Laws
public import Idealize.ShloMosaic.Lib.Pointwise
public import Idealize.ShloMosaic.Lib.ValueLayoutCasts

@[expose] public section

noncomputable section

namespace Cert.RowReduce

open Idealize.ShloMosaic

/-- The index a reduction along the columns reads: row `r`, column `k`. -/
theorem lift_row {a b : ℕ} (h : Shape.Reduces ⟨2, ![a, b]⟩ [1] ⟨1, ![a]⟩) (r : Fin a) (k : Fin b) :
    h.lift (ix1 r) k = ix2 r k := by
  funext i
  apply Fin.ext
  match i with
  | ⟨0, _⟩ => rfl
  | ⟨1, _⟩ => rfl

/-- The row maxima of a matrix, kept as a column, at row `r`: the fold of `max` over the row. -/
theorem rowMax_apply {a b : ℕ} (v : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (hs : Shape.ShapeCasts ⟨1, ![a]⟩ ⟨2, ![a, 1]⟩) (r : Fin a) :
    shapeCast ⟨2, ![a, 1]⟩ (multiReduction .maximumf [1] ⟨1, ![a]⟩ v acc h hφ hacc) hs (ix2 r 0)
      = Finset.univ.fold max (Ideal.ofBits .f32 acc) fun k : Fin b => v (ix2 r k) := by
  refine (ValueIdx.shapeCast_a_a1_apply _ hs r 0).trans ?_
  refine (Ideal.multiReduction_maximumf_single v acc h hφ hacc _).trans ?_
  exact Finset.fold_congr fun k _ => congrArg v (lift_row h r k)

/-- The row sums of a matrix, kept as a column, at row `r`: the sum over the row. -/
theorem rowSum_apply {a b : ℕ} (v : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (hs : Shape.ShapeCasts ⟨1, ![a]⟩ ⟨2, ![a, 1]⟩) (r : Fin a) :
    shapeCast ⟨2, ![a, 1]⟩ (multiReduction .add [1] ⟨1, ![a]⟩ v acc h hφ hacc) hs (ix2 r 0)
      = ∑ k : Fin b, v (ix2 r k) := by
  refine (ValueIdx.shapeCast_a_a1_apply _ hs r 0).trans ?_
  refine (Ideal.multiReduction_add_single v acc h hφ hacc _).trans ?_
  exact Finset.sum_congr rfl fun k _ => congrArg v (lift_row h r k)

/-- The row maxima of a matrix's absolute values, kept as a column, times a constant, at row `r`. -/
theorem scaledAbsMax_apply {a b : ℕ} (v : FVec Ideal ⟨2, ![a, b]⟩ .f32) (acc k : BitVec 32)
    (h : Shape.Reduces ⟨2, ![a, b]⟩ [1] ⟨1, ![a]⟩) (hφ : FKind.Formats .f32) (hacc : acc = FKind.maximumf.neutral .f32 hφ)
    (hs : Shape.ShapeCasts ⟨1, ![a]⟩ ⟨2, ![a, 1]⟩) (r : Fin a) :
    mulf (shapeCast ⟨2, ![a, 1]⟩ (multiReduction .maximumf [1] ⟨1, ![a]⟩ (absf v) acc h hφ hacc) hs)
        (broadcast ⟨2, ![a, 1]⟩ (Scalar.ofBits (F := Ideal) .f32 k)) (ix2 r 0)
      = (Finset.univ.fold max (Ideal.ofBits .f32 acc) fun c : Fin b => max (v (ix2 r c)) (-(v (ix2 r c))))
          * Ideal.ofBits .f32 k :=
  congrArg (fun z : EReal => z * Ideal.ofBits .f32 k) (rowMax_apply (absf v) acc h hφ hacc hs r)

/-- The row maxima of a matrix's absolute values, kept as a column, at row `r`. -/
theorem absMax_apply {a b : ℕ} (v : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (hs : Shape.ShapeCasts ⟨1, ![a]⟩ ⟨2, ![a, 1]⟩) (r : Fin a) :
    shapeCast ⟨2, ![a, 1]⟩ (multiReduction .maximumf [1] ⟨1, ![a]⟩ (absf v) acc h hφ hacc) hs (ix2 r 0)
      = Finset.univ.fold max (Ideal.ofBits .f32 acc) fun c : Fin b => max (v (ix2 r c)) (-(v (ix2 r c))) :=
  rowMax_apply (absf v) acc h hφ hacc hs r

end Cert.RowReduce

end
-- ==== Proof.KernelRow.lean ====
/-
  ONE BLOCK OF THE KERNEL (hand-written, untrusted): what the kernel's body stores of a block of 512 rows, read row by row.
  A row of the stored scales and of the stored codes is the row's scale and code of Row.lean, at the row of the loaded block.
-/
module

public import proofs.«01_k».proof.Proof.Gen.KernelIdeal.Skeleton
public import proofs.«01_k».proof.Proof.Row
public import proofs.«01_k».proof.Proof.RowReduce

@[expose] public section

set_option maxRecDepth 16384

noncomputable section

namespace Cert.KernelRow

open Idealize.ShloMosaic Idealize.SL.Sem
open Cert.KernelIdeal Cert.KernelIdeal.Gen

variable [Cert.KernelIdeal.Facts]

/-! ## The search, as the body spells it -/

/-- One step of the search on a column of rows. -/
def stepV (t : FVec Ideal S512x1 .f32) (b : IVec S512x1 32) (k : BitVec 32) : IVec S512x1 32 :=
  select (cmpf .olt t (bitcastToFloat .f32 (shli (addi b (broadcast S512x1 k)) (broadcast S512x1 23#32)))) b
    (addi b (broadcast S512x1 k))

theorem shl23 (x : BitVec 32) : IntOp.shli .vector x 23#32 = x <<< 23 := rfl

/-- A step at a row is the step of that row's number. -/
theorem stepV_apply (t : FVec Ideal S512x1 .f32) (b : IVec S512x1 32) (k : BitVec 32) (r : Fin 512) :
    stepV t b k (ix2 r 0) = Exponent.step (t (ix2 r 0)) (b (ix2 r 0)) k := by
  pointwise [stepV]
  rw [shl23]
  rfl

/-- The body's last six steps and the one before them are `stepV`'s. -/
theorem pay8_eq (t : FVec Ideal S512x1 .f32) (b : IVec S512x1 32) :
    k0_pay8 t b (addi b (broadcast S512x1 64#32))
      = stepV t (stepV t (stepV t (stepV t (stepV t (stepV t (stepV t b 64#32) 32#32) 16#32) 8#32) 4#32) 2#32) 1#32 := rfl

/-- The whole search at a row. -/
theorem ladder_apply (t : FVec Ideal S512x1 .f32) (r : Fin 512) :
    k0_pay8 t (stepV t (broadcast S512x1 0#32) 128#32) (addi (stepV t (broadcast S512x1 0#32) 128#32) (broadcast S512x1 64#32))
      (ix2 r 0) = Exponent.ladder (t (ix2 r 0)) := by
  rw [pay8_eq]
  simp only [stepV_apply]
  rfl

/-- The exponent the body keeps, at a row where the field found is the search's. -/
theorem pay1_apply (t : FVec Ideal S512x1 .f32) (b : IVec S512x1 32) (r : Fin 512)
    (hb : b (ix2 r 0) = Exponent.ladder (t (ix2 r 0))) : k0_pay1 t b (ix2 r 0) = Exponent.word (t (ix2 r 0)) := by
  pointwise [k0_pay1]
  rw [mul_zero, if_pos rfl, hb]
  unfold Exponent.word IntOp.minsi
  generalize (if (Exponent.ladder (t (ix2 r 0))).slt 252#32 then Exponent.ladder (t (ix2 r 0)) else 252#32) = w
  by_cases h : w = 0#32
  · rw [if_pos h, h]; rfl
  · rw [if_neg h]
    have : IntOp.cmpi CmpIPredicate.eq w 0#32 = 0#1 := by
      simp only [IntOp.cmpi, beq_eq_false_iff_ne.2 h]; rfl
    rw [this]; rfl

/-- The stored scale at a row. -/
theorem pay2_apply (t : FVec Ideal S512x1 .f32) (b : IVec S512x1 32) (r : Fin 512)
    (hb : b (ix2 r 0) = Exponent.ladder (t (ix2 r 0))) :
    k0_pay2 t b (ix2 r 0) = (((2 : ℝ) ^ Exponent.expo (t (ix2 r 0)) : ℝ) : EReal) := by
  pointwise [k0_pay2]
  rw [pay1_apply t b r hb, shl23]
  exact Exponent.ofBits_scale _

/-- The stored code at a row and a column. -/
theorem pay3_apply (y : FVec Ideal S512x3584 .f32) (t : FVec Ideal S512x1 .f32) (b : IVec S512x1 32) (r : Fin 512) (c : Fin 3584)
    (hb : b (ix2 r 0) = Exponent.ladder (t (ix2 r 0))) :
    k0_pay3 y t b (ix2 r c) = min (Ideal.ofBits .f32 0x43E00000#32)
      (max (Ideal.ofBits .f32 0xC3E00000#32)
        (y (ix2 r c) * (((2 : ℝ) ^ (-Exponent.expo (t (ix2 r 0))) : ℝ) : EReal))) := by
  pointwise [k0_pay3]
  rw [pay1_apply t b r hb, shl23]
  congr 3
  exact Exponent.ofBits_inverse _

/-! ## The layer's values and their greatest -/

/-- The layer's value at a row and a column of the block. -/
theorem pay4_apply (x : Vec Ideal S512x4736 .fp8e4m3) (w : Vec Ideal S3584x4736 .fp8e4m3) (s : Vec Ideal S512x1 .f32)
    (ws : Vec Ideal S1x3584 .f32) (r : Fin 512) (c : Fin 3584) :
    k0_pay4 (F := Ideal) x w s ws (ix2 r c)
      = Row.value (fun k => x (ix2 r k)) (s (ix2 r 0)) (fun k => w (ix2 c k)) (ws (ix2 0 c)) := by
  pointwise [k0_pay4]
  rfl

/-- The column of numbers the exponents are read off, of any block of values. -/
def ratioV (y : FVec Ideal S512x3584 .f32) : FVec Ideal S512x1 .f32 :=
  mulf (shapeCast S512x1
      (multiReduction .maximumf [1] S512 (absf y) 0xFF800000#32 reduces_S512x3584_S512 (.inl rfl) rfl) shapeCasts_S512_S512x1)
    (broadcast S512x1 (Scalar.ofBits (F := Ideal) .f32 0x3B124925#32))

theorem pay5_eq (x : Vec Ideal S512x4736 .fp8e4m3) (w : Vec Ideal S3584x4736 .fp8e4m3) (s : Vec Ideal S512x1 .f32)
    (ws : Vec Ideal S1x3584 .f32) : k0_pay5 (F := Ideal) x w s ws = ratioV (k0_pay4 (F := Ideal) x w s ws) := rfl

/-- That column at a row. -/
theorem ratioV_apply (y : FVec Ideal S512x3584 .f32) (r : Fin 512) :
    ratioV y (ix2 r 0) = Row.ratio fun c => y (ix2 r c) :=
  RowReduce.scaledAbsMax_apply y 0xFF800000#32 0x3B124925#32 reduces_S512x3584_S512 (.inl rfl) rfl shapeCasts_S512_S512x1 r

/-- The first step, on the column of numbers. -/
theorem pay6_eq (x : Vec Ideal S512x4736 .fp8e4m3) (w : Vec Ideal S3584x4736 .fp8e4m3) (s : Vec Ideal S512x1 .f32)
    (ws : Vec Ideal S1x3584 .f32) :
    k0_pay6 (F := Ideal) x w s ws = stepV (k0_pay5 (F := Ideal) x w s ws) (broadcast S512x1 0#32) 128#32 := rfl

theorem pay7_eq (x : Vec Ideal S512x4736 .fp8e4m3) (w : Vec Ideal S3584x4736 .fp8e4m3) (s : Vec Ideal S512x1 .f32)
    (ws : Vec Ideal S1x3584 .f32) :
    k0_pay7 (F := Ideal) x w s ws = addi (k0_pay6 (F := Ideal) x w s ws) (broadcast S512x1 64#32) := rfl

/-! ## What the body stores -/

/-- The row of layer values of a block's row `r`. -/
abbrev row (x : Vec Ideal S512x4736 .fp8e4m3) (w : Vec Ideal S3584x4736 .fp8e4m3) (s : Vec Ideal S512x1 .f32)
    (ws : Vec Ideal S1x3584 .f32) (r : Fin 512) : Fin 3584 → EReal :=
  fun c => Row.value (fun k => x (ix2 r k)) (s (ix2 r 0)) (fun k => w (ix2 c k)) (ws (ix2 0 c))

theorem pay5_apply (x : Vec Ideal S512x4736 .fp8e4m3) (w : Vec Ideal S3584x4736 .fp8e4m3) (s : Vec Ideal S512x1 .f32)
    (ws : Vec Ideal S1x3584 .f32) (r : Fin 512) : k0_pay5 (F := Ideal) x w s ws (ix2 r 0) = Row.ratio (row x w s ws r) := by
  rw [pay5_eq, ratioV_apply]
  exact congrArg _ (funext fun c => pay4_apply x w s ws r c)

theorem search_apply (x : Vec Ideal S512x4736 .fp8e4m3) (w : Vec Ideal S3584x4736 .fp8e4m3) (s : Vec Ideal S512x1 .f32)
    (ws : Vec Ideal S1x3584 .f32) (r : Fin 512) :
    k0_pay8 (k0_pay5 (F := Ideal) x w s ws) (k0_pay6 (F := Ideal) x w s ws) (k0_pay7 (F := Ideal) x w s ws) (ix2 r 0)
      = Exponent.ladder (k0_pay5 (F := Ideal) x w s ws (ix2 r 0)) := by
  rw [pay7_eq, pay6_eq]
  exact ladder_apply _ r

/-- The scale the body stores at a row of its block is that row's scale. -/
theorem scale_apply (x : Vec Ideal S512x4736 .fp8e4m3) (w : Vec Ideal S3584x4736 .fp8e4m3) (s : Vec Ideal S512x1 .f32)
    (ws : Vec Ideal S1x3584 .f32) (r : Fin 512) :
    k0_pay2 (k0_pay5 (F := Ideal) x w s ws)
        (k0_pay8 (k0_pay5 (F := Ideal) x w s ws) (k0_pay6 (F := Ideal) x w s ws) (k0_pay7 (F := Ideal) x w s ws)) (ix2 r 0)
      = Row.scale (row x w s ws r) := by
  rw [pay2_apply _ _ r (search_apply x w s ws r), pay5_apply]
  rfl

/-- The code the body stores at a row and a column of its block is that row's code there. -/
theorem code_apply (x : Vec Ideal S512x4736 .fp8e4m3) (w : Vec Ideal S3584x4736 .fp8e4m3) (s : Vec Ideal S512x1 .f32)
    (ws : Vec Ideal S1x3584 .f32) (r : Fin 512) (c : Fin 3584) :
    k0_pay3 (k0_pay4 (F := Ideal) x w s ws) (k0_pay5 (F := Ideal) x w s ws)
        (k0_pay8 (k0_pay5 (F := Ideal) x w s ws) (k0_pay6 (F := Ideal) x w s ws) (k0_pay7 (F := Ideal) x w s ws)) (ix2 r c)
      = Row.code (row x w s ws r) c := by
  rw [pay3_apply _ _ _ r c (search_apply x w s ws r), pay5_apply, pay4_apply]
  rfl

end Cert.KernelRow

end
-- ==== Proof.KernelArray.lean ====
/-
  THE KERNEL'S TWO RESULT ARRAYS (hand-written, untrusted): the 36 blocks of 512 rows tile the arrays, and each holds the
  scales and the codes of its rows (KernelRow.lean), so the arrays after the run are those of Arrays.lean.
-/
module

public import proofs.«01_k».proof.Proof.Gen.KernelIdeal
public import proofs.«01_k».proof.Proof.Gen.KernelIdeal.Frame
public import proofs.«01_k».proof.Proof.Arrays
public import proofs.«01_k».proof.Proof.KernelRow
public import Idealize.ShloMosaic.Lib.Claim
public import Idealize.ShloMosaic.Lib.Pipeline.ValueKit

@[expose] public section

set_option maxRecDepth 16384

noncomputable section

namespace Cert.KernelArray

open Idealize.ShloMosaic Idealize.SL.Sem
open Cert.KernelIdeal Cert.KernelIdeal.Gen

variable (m : (ℓ : Loc nD τ sig) → Buf (Elt Ideal) ℓ) (c : Dev nD)

/-- Where each window's block lies at a grid point: the row blocks at the point, the weights and their scales at the origin. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

/-- The array row that row `r` of block `t` is. -/
def at_ (t : Fin cfg0.N) (r : Fin 512) : Fin 18432 := ⟨t.val * 512 + r.val, by
  have := t.isLt
  have h : cfg0.N = 36 := N_0
  omega⟩

/-- A row of a block is the array's row. -/
theorem row_eq (t : Fin cfg0.N) (r : Fin 512) :
    KernelRow.row (iblk m c 0 t) (iblk m c 2 t) (iblk m c 1 t) (iblk m c 3 t) r
      = Arrays.row (V m c main_v0) (V m c main_v1) (V m c main_arg2) (V m c main_v2) (at_ t r) := by
  have h0 (k : Fin 4736) : iblk m c 0 t (ix2 r k) = V m c main_v0 (ix2 (at_ t r) k) := by
    blk_ext [iblk, at_, idx t]
  have h1 : iblk m c 1 t (ix2 r 0) = V m c main_v1 (ix2 (at_ t r) 0) := by
    blk_ext [iblk, at_, idx t]
  have h2 (d : Fin 3584) (k : Fin 4736) : iblk m c 2 t (ix2 d k) = V m c main_arg2 (ix2 d k) := by
    blk_ext [iblk, idx t]
  have h3 (d : Fin 3584) : iblk m c 3 t (ix2 0 d) = V m c main_v2 (ix2 0 d) := by
    blk_ext [iblk, idx t]
  funext d
  unfold KernelRow.row Arrays.row
  simp only [h0, h1, h2, h3]

/-- Where an element of the scales' block lies in the array. -/
theorem emb4 (t : Fin cfg0.N) (r : Fin 512) :
    ((cfg0.win 4).blk t).view.emb (ix2 r 0) = ix2 (at_ t r) 0 := by
  blk_ext [at_, idx t]

/-- Where an element of the codes' block lies in the array. -/
theorem emb5 (t : Fin cfg0.N) (r : Fin 512) (d : Fin 3584) :
    ((cfg0.win 5).blk t).view.emb (ix2 r d) = ix2 (at_ t r) d := by
  blk_ext [at_, idx t]

/-- The body's block of values, over the blocks it loads whole. -/
theorem pay9_eq (x0 : Vec Ideal S512x4736 .fp8e4m3) (x1 : Vec Ideal S512x1 .f32) (x2 : Vec Ideal S3584x4736 .fp8e4m3)
    (x3 : Vec Ideal S1x3584 .f32) : k0_pay9 x0 x1 x2 x3 = k0_pay5 x0 x2 x1 x3 := by
  unfold k0_pay9
  frame_out

/-- The body's column of exponent fields, over the blocks it loads whole. -/
theorem pay10_eq (x0 : Vec Ideal S512x4736 .fp8e4m3) (x1 : Vec Ideal S512x1 .f32) (x2 : Vec Ideal S3584x4736 .fp8e4m3)
    (x3 : Vec Ideal S1x3584 .f32) : k0_pay10 x0 x1 x2 x3
      = k0_pay8 (k0_pay5 x0 x2 x1 x3) (k0_pay6 x0 x2 x1 x3) (k0_pay7 x0 x2 x1 x3) := by
  unfold k0_pay10
  rw [pay9_eq]
  frame_out

/-- The scales' array after the run. -/
theorem arr4 : (dats m 0 c).arrAt 4 cfg0.N
    = Arrays.scales (V m c main_v0) (V m c main_v1) (V m c main_arg2) (V m c main_v2) := by
  refine (dats m 0 c).arrAt_eq_of_covers 4 _ (by decide +kernel) fun t hf y => ?_
  obtain ⟨r, z, rfl⟩ : ∃ (r : Fin 512) (z : Fin 1), y = ix2 r z := ⟨y 0, y 1, eq_ix2 y⟩
  obtain rfl : z = 0 := Subsingleton.elim _ _
  rw [emb4]
  blk_simp
  rw [after0_4]
  frame_out
  rw [pay9_eq, pay10_eq]
  refine (KernelRow.scale_apply _ _ _ _ r).trans ?_
  rw [row_eq]
  rfl

/-- The codes' array after the run. -/
theorem arr5 : (dats m 0 c).arrAt 5 cfg0.N
    = Arrays.codes (V m c main_v0) (V m c main_v1) (V m c main_arg2) (V m c main_v2) := by
  refine (dats m 0 c).arrAt_eq_of_covers 5 _ (by decide +kernel) fun t hf y => ?_
  obtain ⟨r, d, rfl⟩ : ∃ (r : Fin 512) (d : Fin 3584), y = ix2 r d := ⟨y 0, y 1, eq_ix2 y⟩
  rw [emb5]
  blk_simp
  rw [after0_5]
  frame_out
  rw [pay9_eq, pay10_eq]
  refine (KernelRow.code_apply _ _ _ _ r d).trans ?_
  rw [row_eq]
  rfl

/-- From any memory the program runs, its results the arrays of Arrays.lean over the host's prepared operands, its arguments
    unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0)
          = Arrays.scales (V m c main_v0) (V m c main_v1) (V m c main_arg2) (V m c main_v2)
      ∧ r.2.mem ((c.tc : Thread nD τ).loc main_v3_1)
          = Arrays.codes (V m c main_v0) (V m c main_v1) (V m c main_arg2) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (arr4 m c), ((h c).1 5).trans (arr5 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩)
    (run_main m ρ)

end Cert.KernelArray

end
-- ==== Proof.ReferenceRow.lean ====
/-
  THE REFERENCE, ROW BY ROW (hand-written, untrusted): what the reference's body stores of its 18432 rows. A row of the stored
  scales and of the stored codes is the row's scale and code of Row.lean.
-/
module

public import proofs.«01_k».proof.Proof.Gen.ReferenceIdeal.Skeleton
public import proofs.«01_k».proof.Proof.Row
public import proofs.«01_k».proof.Proof.RowReduce

@[expose] public section

set_option maxRecDepth 16384

noncomputable section

namespace Cert.ReferenceRow

open Idealize.ShloMosaic Idealize.SL.Sem
open Cert.ReferenceIdeal Cert.ReferenceIdeal.Gen

variable [Cert.ReferenceIdeal.Facts]

/-! ## The powers compared with, and the count -/

/-- The words of the powers' exponents read as integers. -/
theorem toInt_power : ∀ j : Fin 252, (IntOp.subi (BitVec.ofNat 32 j.val) 126#32).toInt = (j.val : ℤ) - 126 := by decide +kernel

/-- The power compared with in column `j`. -/
theorem power_eq (j : Fin 252) :
    FloatOps.exp2 (F := Ideal) (FloatOps.sitofp .f32 (IntOp.subi (BitVec.ofNat 32 j.val) 126#32))
      = (((2 : ℝ) ^ ((j.val : ℤ) - 126) : ℝ) : EReal) := by
  show Ideal.exp2 (((IntOp.subi (BitVec.ofNat 32 j.val) 126#32).toInt : ℝ) : EReal) = _
  rw [toInt_power, Exponent.exp2_int]

/-- The table of ones and zeros: for each row and power, whether the row's number is at least the power. -/
def tableV (a : FVec Ideal S18432x1 .f32) : FVec Ideal S18432x252 .f32 :=
  select
    (cmpf .oge
      (broadcastTo S18432x252 (mulf a (broadcast S18432x1 (Scalar.ofBits (F := Ideal) .f32 0x3B124925#32)))
        broadcasts_S18432x1_S18432x252)
      (broadcastTo S18432x252
        (exp2 (sitofp .f32 (subi (iota .tc S1x252 32 [1] iota_S1x252_d1_w32) (broadcast S1x252 126#32))))
        broadcasts_S1x252_S18432x252))
    (broadcast S18432x252 (Scalar.ofBits (F := Ideal) .f32 0x3F800000#32))
    (broadcast S18432x252 (Scalar.ofBits (F := Ideal) .f32 0x00000000#32))

theorem pay6_eq (x : Vec Ideal S18432x4736 .fp8e4m3) (w : Vec Ideal S3584x4736 .fp8e4m3) (s : Vec Ideal S18432x1 .f32)
    (ws : Vec Ideal S1x3584 .f32) : k0_pay6 (F := Ideal) x w s ws = tableV (k0_pay5 (F := Ideal) x w s ws) := rfl

/-- The table at a row and a power. -/
theorem tableV_apply (a : FVec Ideal S18432x1 .f32) (r : Fin 18432) (j : Fin 252) :
    tableV a (ix2 r j) = if FloatOps.exp2 (F := Ideal) (FloatOps.sitofp .f32 (IntOp.subi (BitVec.ofNat 32 j.val) 126#32))
      ≤ a (ix2 r 0) * Ideal.ofBits .f32 0x3B124925#32 then (1 : EReal) else 0 := by
  pointwise [tableV]

/-- The table's row sums to the count of the powers at most the row's number. -/
theorem sum_tableV (a : FVec Ideal S18432x1 .f32) (r : Fin 18432) :
    ∑ j, tableV a (ix2 r j) = ((Exponent.count (a (ix2 r 0) * Ideal.ofBits .f32 0x3B124925#32) : ℝ) : EReal) := by
  simp only [tableV_apply]
  exact Exponent.sum_count _ _ power_eq

/-- The exponent at a row, from the row's greatest absolute value and the table. -/
theorem pay1_apply (a : FVec Ideal S18432x1 .f32) (b : FVec Ideal S18432x252 .f32) (r : Fin 18432) :
    k0_pay1 a b (ix2 r 0) = if a (ix2 r 0) = 0 then 0
      else if ∑ j, b (ix2 r j) = 0 then 0 else ∑ j, b (ix2 r j) - Ideal.ofBits .f32 0x42FC0000#32 := by
  pointwise [k0_pay1]

/-- The exponent at a row is the integer of Exponent.lean. -/
theorem expo_apply (a : FVec Ideal S18432x1 .f32) (y : Fin 3584 → EReal) (r : Fin 18432) (ha : a (ix2 r 0) = Row.amax y) :
    k0_pay1 a (tableV a) (ix2 r 0) = (((Exponent.expo (Row.ratio y) : ℤ) : ℝ) : EReal) := by
  rw [pay1_apply, sum_tableV, ha, Row.ofBits_126]
  exact Row.expo_of_count y

/-- The stored scale at a row. -/
theorem pay2_apply (a : FVec Ideal S18432x1 .f32) (y : Fin 3584 → EReal) (r : Fin 18432) (ha : a (ix2 r 0) = Row.amax y) :
    k0_pay2 a (tableV a) (ix2 r 0) = Row.scale y := by
  pointwise [k0_pay2]
  rw [expo_apply a y r ha]
  exact Exponent.exp2_int _

/-- The stored code at a row and a column. -/
theorem pay3_apply (v : FVec Ideal S18432x3584 .f32) (a : FVec Ideal S18432x1 .f32) (y : Fin 3584 → EReal) (r : Fin 18432)
    (c : Fin 3584) (ha : a (ix2 r 0) = Row.amax y) (hv : v (ix2 r c) = y c) :
    k0_pay3 v a (tableV a) (ix2 r c) = Row.code y c := by
  pointwise [k0_pay3]
  rw [expo_apply a y r ha, hv, zero_sub, ← EReal.coe_neg, ← Int.cast_neg]
  unfold Row.code
  congr 3
  exact Exponent.exp2_int _

/-! ## The layer's values and their greatest -/

/-- The layer's value at a row and a column. -/
theorem pay4_apply (x : Vec Ideal S18432x4736 .fp8e4m3) (w : Vec Ideal S3584x4736 .fp8e4m3) (s : Vec Ideal S18432x1 .f32)
    (ws : Vec Ideal S1x3584 .f32) (r : Fin 18432) (c : Fin 3584) :
    k0_pay4 (F := Ideal) x w s ws (ix2 r c)
      = Row.value (fun k => x (ix2 r k)) (s (ix2 r 0)) (fun k => w (ix2 c k)) (ws (ix2 0 c)) := by
  pointwise [k0_pay4]
  exact Row.gelu_assoc _

/-- The column of greatest absolute values of any array of values. -/
def amaxV (y : FVec Ideal S18432x3584 .f32) : FVec Ideal S18432x1 .f32 :=
  shapeCast S18432x1
    (multiReduction .maximumf [1] S18432 (absf y) 0xFF800000#32 reduces_S18432x3584_S18432 (.inl rfl) rfl)
    shapeCasts_S18432_S18432x1

theorem pay5_eq (x : Vec Ideal S18432x4736 .fp8e4m3) (w : Vec Ideal S3584x4736 .fp8e4m3) (s : Vec Ideal S18432x1 .f32)
    (ws : Vec Ideal S1x3584 .f32) : k0_pay5 (F := Ideal) x w s ws = amaxV (k0_pay4 (F := Ideal) x w s ws) := rfl

/-- That column at a row. -/
theorem amaxV_apply (y : FVec Ideal S18432x3584 .f32) (r : Fin 18432) : amaxV y (ix2 r 0) = Row.amax fun c => y (ix2 r c) :=
  RowReduce.absMax_apply y 0xFF800000#32 reduces_S18432x3584_S18432 (.inl rfl) rfl shapeCasts_S18432_S18432x1 r

/-! ## What the body stores -/

/-- The row of layer values of row `r`. -/
abbrev row (x : Vec Ideal S18432x4736 .fp8e4m3) (w : Vec Ideal S3584x4736 .fp8e4m3) (s : Vec Ideal S18432x1 .f32)
    (ws : Vec Ideal S1x3584 .f32) (r : Fin 18432) : Fin 3584 → EReal :=
  fun c => Row.value (fun k => x (ix2 r k)) (s (ix2 r 0)) (fun k => w (ix2 c k)) (ws (ix2 0 c))

theorem pay5_apply (x : Vec Ideal S18432x4736 .fp8e4m3) (w : Vec Ideal S3584x4736 .fp8e4m3) (s : Vec Ideal S18432x1 .f32)
    (ws : Vec Ideal S1x3584 .f32) (r : Fin 18432) : k0_pay5 (F := Ideal) x w s ws (ix2 r 0) = Row.amax (row x w s ws r) := by
  rw [pay5_eq, amaxV_apply]
  exact congrArg _ (funext fun c => pay4_apply x w s ws r c)

/-- The scale the body stores at a row is that row's scale. -/
theorem scale_apply (x : Vec Ideal S18432x4736 .fp8e4m3) (w : Vec Ideal S3584x4736 .fp8e4m3) (s : Vec Ideal S18432x1 .f32)
    (ws : Vec Ideal S1x3584 .f32) (r : Fin 18432) :
    k0_pay2 (k0_pay5 (F := Ideal) x w s ws) (k0_pay6 (F := Ideal) x w s ws) (ix2 r 0) = Row.scale (row x w s ws r) := by
  rw [pay6_eq]
  exact pay2_apply _ _ r (pay5_apply x w s ws r)

/-- The code the body stores at a row and a column is that row's code there. -/
theorem code_apply (x : Vec Ideal S18432x4736 .fp8e4m3) (w : Vec Ideal S3584x4736 .fp8e4m3) (s : Vec Ideal S18432x1 .f32)
    (ws : Vec Ideal S1x3584 .f32) (r : Fin 18432) (c : Fin 3584) :
    k0_pay3 (k0_pay4 (F := Ideal) x w s ws) (k0_pay5 (F := Ideal) x w s ws) (k0_pay6 (F := Ideal) x w s ws) (ix2 r c)
      = Row.code (row x w s ws r) c := by
  rw [pay6_eq]
  exact pay3_apply _ _ _ r c (pay5_apply x w s ws r) (pay4_apply x w s ws r c)

end Cert.ReferenceRow

end
-- ==== Proof.ReferenceArray.lean ====
/-
  THE REFERENCE'S TWO RESULT ARRAYS (hand-written, untrusted): the reference has one grid point, whose blocks are the whole
  arrays, and each holds the scales and the codes of its rows (ReferenceRow.lean), so the arrays after the run are those of
  Arrays.lean.
-/
module

public import proofs.«01_k».proof.Proof.Gen.ReferenceIdeal
public import proofs.«01_k».proof.Proof.Gen.ReferenceIdeal.Frame
public import proofs.«01_k».proof.Proof.Arrays
public import proofs.«01_k».proof.Proof.ReferenceRow
public import Idealize.ShloMosaic.Lib.Claim
public import Idealize.ShloMosaic.Lib.Pipeline.ValueKit

@[expose] public section

set_option maxRecDepth 16384

noncomputable section

namespace Cert.ReferenceArray

open Idealize.ShloMosaic Idealize.SL.Sem
open Cert.ReferenceIdeal Cert.ReferenceIdeal.Gen

variable (m : (ℓ : Loc nD τ sig) → Buf (Elt Ideal) ℓ) (c : Dev nD)

/-- Every window's block lies at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by
  decide +kernel

/-- A row of a block is the array's row. -/
theorem row_eq (t : Fin cfg0.N) (r : Fin 18432) :
    ReferenceRow.row (iblk m c 0 t) (iblk m c 2 t) (iblk m c 1 t) (iblk m c 3 t) r
      = Arrays.row (V m c main_v0) (V m c main_v1) (V m c main_arg2) (V m c main_v2) r := by
  have h0 (k : Fin 4736) : iblk m c 0 t (ix2 r k) = V m c main_v0 (ix2 r k) := by
    blk_ext [iblk, idx t]
  have h1 : iblk m c 1 t (ix2 r 0) = V m c main_v1 (ix2 r 0) := by
    blk_ext [iblk, idx t]
  have h2 (d : Fin 3584) (k : Fin 4736) : iblk m c 2 t (ix2 d k) = V m c main_arg2 (ix2 d k) := by
    blk_ext [iblk, idx t]
  have h3 (d : Fin 3584) : iblk m c 3 t (ix2 0 d) = V m c main_v2 (ix2 0 d) := by
    blk_ext [iblk, idx t]
  funext d
  unfold ReferenceRow.row Arrays.row
  simp only [h0, h1, h2, h3]

/-- Where an element of the scales' block lies in the array. -/
theorem emb4 (t : Fin cfg0.N) (r : Fin 18432) :
    ((cfg0.win 4).blk t).view.emb (ix2 r 0) = ix2 r 0 := by
  blk_ext [idx t]

/-- Where an element of the codes' block lies in the array. -/
theorem emb5 (t : Fin cfg0.N) (r : Fin 18432) (d : Fin 3584) :
    ((cfg0.win 5).blk t).view.emb (ix2 r d) = ix2 r d := by
  blk_ext [idx t]

/-- The body's column of numbers the exponents are read off, over the blocks it loads whole. -/
theorem pay7_eq (x0 : Vec Ideal S18432x4736 .fp8e4m3) (x1 : Vec Ideal S18432x1 .f32) (x2 : Vec Ideal S3584x4736 .fp8e4m3)
    (x3 : Vec Ideal S1x3584 .f32) : k0_pay7 x0 x1 x2 x3 = k0_pay5 x0 x2 x1 x3 := by
  unfold k0_pay7
  frame_out

/-- The body's tests against the powers of two, over the blocks it loads whole. -/
theorem pay8_eq (x0 : Vec Ideal S18432x4736 .fp8e4m3) (x1 : Vec Ideal S18432x1 .f32) (x2 : Vec Ideal S3584x4736 .fp8e4m3)
    (x3 : Vec Ideal S1x3584 .f32) : k0_pay8 x0 x1 x2 x3 = k0_pay6 x0 x2 x1 x3 := by
  unfold k0_pay8
  frame_out

/-- The scales' array after the run. -/
theorem arr4 : (dats m 0 c).arrAt 4 cfg0.N
    = Arrays.scales (V m c main_v0) (V m c main_v1) (V m c main_arg2) (V m c main_v2) := by
  refine (dats m 0 c).arrAt_eq_of_covers 4 _ (by decide +kernel) fun t hf y => ?_
  obtain ⟨r, z, rfl⟩ : ∃ (r : Fin 18432) (z : Fin 1), y = ix2 r z := ⟨y 0, y 1, eq_ix2 y⟩
  obtain rfl : z = 0 := Subsingleton.elim _ _
  rw [emb4]
  blk_simp
  rw [after0_4]
  frame_out
  rw [pay7_eq, pay8_eq]
  refine (ReferenceRow.scale_apply _ _ _ _ r).trans ?_
  rw [row_eq]
  rfl

/-- The codes' array after the run. -/
theorem arr5 : (dats m 0 c).arrAt 5 cfg0.N
    = Arrays.codes (V m c main_v0) (V m c main_v1) (V m c main_arg2) (V m c main_v2) := by
  refine (dats m 0 c).arrAt_eq_of_covers 5 _ (by decide +kernel) fun t hf y => ?_
  obtain ⟨r, d, rfl⟩ : ∃ (r : Fin 18432) (d : Fin 3584), y = ix2 r d := ⟨y 0, y 1, eq_ix2 y⟩
  rw [emb5]
  blk_simp
  rw [after0_5]
  frame_out
  rw [pay7_eq, pay8_eq]
  refine (ReferenceRow.code_apply _ _ _ _ r d).trans ?_
  rw [row_eq]
  rfl

/-- From any memory the program runs, its results the arrays of Arrays.lean over the host's prepared operands, its arguments
    unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0)
          = Arrays.scales (V m c main_v0) (V m c main_v1) (V m c main_arg2) (V m c main_v2)
      ∧ r.2.mem ((c.tc : Thread nD τ).loc main_v3_1)
          = Arrays.codes (V m c main_v0) (V m c main_v1) (V m c main_arg2) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (arr4 m c), ((h c).1 5).trans (arr5 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c)⟩)
    (run_main m ρ)

end Cert.ReferenceArray

end
-- ==== Proof.Claims.lean ====
/-
  THE CLAIMS (hand-written, untrusted), each as Defs.lean states it.
-/
module

public import proofs.«01_k».proof.Defs
public import proofs.«01_k».proof.Proof.Gen.Kernel
public import proofs.«01_k».proof.Proof.Gen.Kernel.Frame
public import proofs.«01_k».proof.Proof.KernelArray
public import proofs.«01_k».proof.Proof.ReferenceArray

@[expose] public section

noncomputable section

namespace Cert.Claims

open Idealize.ShloMosaic Idealize.SL.Sem

/-- The kernel runs without fault from any memory, leaves its arguments unchanged and every semaphore at zero. -/
theorem frame_kernel : Cert.quiescent_Kernel := fun m ρ _ => Cert.Kernel.Gen.frame m ρ

/-- The same of the kernel read over the extended reals. -/
theorem frame_kernel_ideal : Cert.quiescent_KernelIdeal := fun m ρ _ => Cert.KernelIdeal.Gen.frame m ρ

/-- The same of the reference read over the extended reals. -/
theorem frame_reference_ideal : Cert.quiescent_ReferenceIdeal := fun m ρ _ => Cert.ReferenceIdeal.Gen.frame m ρ

/-- The kernel read over the extended reals is the kernel's own text, no operation rewritten. -/
theorem preserves : Cert.preserves_Kernel_KernelIdeal := trivial

/-- Kernel and reference, over the extended reals and on equal arguments, end with equal scales and equal codes. -/
theorem algebraic : Cert.algebraic_KernelIdeal_ReferenceIdeal := by
  intro m ρ m' ρ' _ hagree
  refine ⟨fun c => Arrays.scales (KernelIdeal.Gen.V m c KernelIdeal.main_v0) (KernelIdeal.Gen.V m c KernelIdeal.main_v1)
      (KernelIdeal.Gen.V m c KernelIdeal.main_arg2) (KernelIdeal.Gen.V m c KernelIdeal.main_v2),
    fun c => Arrays.codes (KernelIdeal.Gen.V m c KernelIdeal.main_v0) (KernelIdeal.Gen.V m c KernelIdeal.main_v1)
      (KernelIdeal.Gen.V m c KernelIdeal.main_arg2) (KernelIdeal.Gen.V m c KernelIdeal.main_v2),
    KernelArray.run m ρ, ?_⟩
  -- the host prepares the operands alike in both programs
  have h0 (c : Dev KernelIdeal.nD) : ReferenceIdeal.Gen.V m' c ReferenceIdeal.main_v0
      = KernelIdeal.Gen.V m c KernelIdeal.main_v0 := by
    entry_read
    rw [(hagree c).1]
    rfl
  have h1 (c : Dev KernelIdeal.nD) : ReferenceIdeal.Gen.V m' c ReferenceIdeal.main_v1
      = KernelIdeal.Gen.V m c KernelIdeal.main_v1 := by
    entry_read
    rw [(hagree c).2.1]
    rfl
  have h2 (c : Dev KernelIdeal.nD) : ReferenceIdeal.Gen.V m' c ReferenceIdeal.main_arg2
      = KernelIdeal.Gen.V m c KernelIdeal.main_arg2 := by
    entry_read
    exact (hagree c).2.2.1
  have h3 (c : Dev KernelIdeal.nD) : ReferenceIdeal.Gen.V m' c ReferenceIdeal.main_v2
      = KernelIdeal.Gen.V m c KernelIdeal.main_v2 := by
    entry_read
    rw [(hagree c).2.2.2]
    rfl
  refine (θ_run ReferenceIdeal.defs _ _).mono (fun _ h c => ⟨(h c).1.trans ?_, (h c).2.1.trans ?_, (h c).2.2⟩)
    (ReferenceArray.run m' ρ')
  · rw [h0, h1, h2, h3]
  · rw [h0, h1, h2, h3]

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Claims.frame_kernel, Claims.frame_kernel_ideal, Claims.frame_reference_ideal, Claims.preserves, Claims.algebraic⟩

end Cert.Proof

end
